-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "slope" .f32 0x3C23D70A#32 ((5368709 / 536870912 : ℝ) : EReal)
  ∧ IdealRules.named_const.Statement Cert.KernelIdeal.κ "step" .f32 0x3C810204#32 ((2 / 127 : ℝ) : EReal)
  ∧ IdealRules.named_const.Statement Cert.KernelIdeal.κ "slope" .bf16 0x3C24#16 ((5368709 / 536870912 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x128x128x128 : Shape := ⟨4, ![4, 128, 128, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S32x17 : Shape := ⟨2, ![32, 17]⟩
abbrev S32x32 : Shape := ⟨2, ![32, 32]⟩
abbrev S1x16 : Shape := ⟨2, ![1, 16]⟩
abbrev S1 : Shape := ⟨1, ![1]⟩
abbrev S4x128x16384 : Shape := ⟨3, ![4, 128, 16384]⟩
abbrev S64x1 : Shape := ⟨2, ![64, 1]⟩
abbrev S32x1 : Shape := ⟨2, ![32, 1]⟩
abbrev S16x1 : Shape := ⟨2, ![16, 1]⟩
abbrev S32x16 : Shape := ⟨2, ![32, 16]⟩
abbrev S1x1 : Shape := ⟨2, ![1, 1]⟩
abbrev S1x128x8192 : Shape := ⟨3, ![1, 128, 8192]⟩
abbrev S1x8x8192 : Shape := ⟨3, ![1, 8, 8192]⟩
abbrev S32x8192 : Shape := ⟨2, ![32, 8192]⟩
abbrev S128x8192 : Shape := ⟨2, ![128, 8192]⟩
abbrev S64x8192 : Shape := ⟨2, ![64, 8192]⟩
abbrev S16x8192 : Shape := ⟨2, ![16, 8192]⟩
abbrev S32x65536 : Shape := ⟨2, ![32, 65536]⟩
abbrev S16x65536 : Shape := ⟨2, ![16, 65536]⟩
abbrev S1x65536 : Shape := ⟨2, ![1, 65536]⟩
abbrev S1x8192 : Shape := ⟨2, ![1, 8192]⟩
abbrev S1x1x8192 : Shape := ⟨3, ![1, 1, 8192]⟩

abbrev nBuf : Space → Nat
  | .hbm => 31
  | .vmem => 20
  | .smem => 0
  | _ => 0

abbrev bufTy : (tb : Table) → Fin (tcTables nBuf tb) → BufTy
  | .hbm, ⟨0, _⟩ => ⟨S4x128x128x128, .f32⟩
  | .hbm, ⟨1, _⟩ => ⟨S64x128, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S16x32, .f32⟩
  | .hbm, ⟨6, _⟩ => ⟨S16, .f32⟩
  | .hbm, ⟨7, _⟩ => ⟨S32x17, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S16x32, .f32⟩
  | .hbm, ⟨12, _⟩ => ⟨S16, .f32⟩
  | .hbm, ⟨13, _⟩ => ⟨S1x16, .f32⟩
  | .hbm, ⟨14, _⟩ => ⟨S1, .f32⟩
  | .hbm, ⟨15, _⟩ => ⟨S4x128x16384, .f32⟩
  | .hbm, ⟨16, _⟩ => ⟨S64x1, .f32⟩
  | .hbm, ⟨17, _⟩ => ⟨S32x1, .f32⟩
  | .hbm, ⟨18, _⟩ => ⟨S16x1, .f32⟩
  | .hbm, ⟨19, _⟩ => ⟨S32x16, .f32⟩
  | .hbm, ⟨20, _⟩ => ⟨S32x1, .f32⟩
  | .hbm, ⟨21, _⟩ => ⟨S32x1, .f32⟩
  | .hbm, ⟨22, _⟩ => ⟨S32x32, .bf16⟩
  | .hbm, ⟨23, _⟩ => ⟨S32x1, .f32⟩
  | .hbm, ⟨24, _⟩ => ⟨S32x1, .bf16⟩
  | .hbm, ⟨25, _⟩ => ⟨S16x32, .bf16⟩
  | .hbm, ⟨26, _⟩ => ⟨S16x1, .f32⟩
  | .hbm, ⟨27, _⟩ => ⟨S16x1, .bf16⟩
  | .hbm, ⟨28, _⟩ => ⟨S1x16, .bf16⟩
  | .hbm, ⟨29, _⟩ => ⟨S1x1, .f32⟩
  | .hbm, ⟨30, _⟩ => ⟨S4x128x16384, .f32⟩
  | .local _ .vmem, ⟨0, _⟩ => ⟨S1x128x8192, .f32⟩
  | .local _ .vmem, ⟨1, _⟩ => ⟨S1x128x8192, .f32⟩
  | .local _ .vmem, ⟨2, _⟩ => ⟨S64x128, .f32⟩
  | .local _ .vmem, ⟨3, _⟩ => ⟨S64x1, .f32⟩
  | .local _ .vmem, ⟨4, _⟩ => ⟨S32x64, .f32⟩
  | .local _ .vmem, ⟨5, _⟩ => ⟨S32x1, .f32⟩
  | .local _ .vmem, ⟨6, _⟩ => ⟨S16x32, .f32⟩
  | .local _ .vmem, ⟨7, _⟩ => ⟨S16x1, .f32⟩
  | .local _ .vmem, ⟨8, _⟩ => ⟨S32x16, .f32⟩
  | .local _ .vmem, ⟨9, _⟩ => ⟨S32x1, .f32⟩
  | .local _ .vmem, ⟨10, _⟩ => ⟨S32x1, .f32⟩
  | .local _ .vmem, ⟨11, _⟩ => ⟨S32x32, .bf16⟩
  | .local _ .vmem, ⟨12, _⟩ => ⟨S32x1, .bf16⟩
  | .local _ .vmem, ⟨13, _⟩ => ⟨S16x32, .bf16⟩
  | .local _ .vmem, ⟨14, _⟩ => ⟨S16x1, .bf16⟩
  | .local _ .vmem, ⟨15, _⟩ => ⟨S1x16, .bf16⟩
  | .local _ .vmem, ⟨16, _⟩ => ⟨S1x1, .f32⟩
  | .local _ .vmem, ⟨17, _⟩ => ⟨S1x8x8192, .f32⟩
  | .local _ .vmem, ⟨18, _⟩ => ⟨S1x8x8192, .f32⟩
  | .local _ .vmem, ⟨19, _⟩ => ⟨S32x8192, .f32⟩
  | _, _ => ⟨S4x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S32x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S32x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S16x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S16x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x16 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 2 → Memref sig .tc .vmem S1x8x8192 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== KernelIdeal.lean ====
variable {F : FTy → Type} [FloatOps F] [Named F]
def κ : String → Option EReal := fun
  | "slope" => some ((5368709 / 536870912 : ℝ) : EReal)
  | "step" => some ((2 / 127 : ℝ) : EReal)
  | _ => none
-- ==== ReferenceIdeal.lean ====
abbrev S4x128x128x128 : Shape := ⟨4, ![4, 128, 128, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S32x17 : Shape := ⟨2, ![32, 17]⟩
abbrev S32x32 : Shape := ⟨2, ![32, 32]⟩
abbrev S1x16 : Shape := ⟨2, ![1, 16]⟩
abbrev S1 : Shape := ⟨1, ![1]⟩
abbrev S4x128x128x64 : Shape := ⟨4, ![4, 128, 128, 64]⟩
abbrev S4x64x128x128 : Shape := ⟨4, ![4, 64, 128, 128]⟩
abbrev S1x64x1x1 : Shape := ⟨4, ![1, 64, 1, 1]⟩
abbrev S_ : Shape := ⟨0, ![]⟩
abbrev S4x128x128x32 : Shape := ⟨4, ![4, 128, 128, 32]⟩
abbrev S4x32x128x128 : Shape := ⟨4, ![4, 32, 128, 128]⟩
abbrev S1x32x1x1 : Shape := ⟨4, ![1, 32, 1, 1]⟩
abbrev S4x128x128x16 : Shape := ⟨4, ![4, 128, 128, 16]⟩
abbrev S4x16x128x128 : Shape := ⟨4, ![4, 16, 128, 128]⟩
abbrev S1x16x1x1 : Shape := ⟨4, ![1, 16, 1, 1]⟩
abbrev S127 : Shape := ⟨1, ![127]⟩
abbrev S128 : Shape := ⟨1, ![128]⟩
abbrev S1x1x128x1x1 : Shape := ⟨5, ![1, 1, 128, 1, 1]⟩
abbrev S4x1x128x128x128 : Shape := ⟨5, ![4, 1, 128, 128, 128]⟩
abbrev S4x16x1x128x128 : Shape := ⟨5, ![4, 16, 1, 128, 128]⟩
abbrev S4x16x128x128x128 : Shape := ⟨5, ![4, 16, 128, 128, 128]⟩
abbrev S4x17x128x128x128 : Shape := ⟨5, ![4, 17, 128, 128, 128]⟩
abbrev S4x17x2097152 : Shape := ⟨3, ![4, 17, 2097152]⟩
abbrev S4x2097152x32 : Shape := ⟨3, ![4, 2097152, 32]⟩
abbrev S4x32x2097152 : Shape := ⟨3, ![4, 32, 2097152]⟩
abbrev S1x32x1 : Shape := ⟨3, ![1, 32, 1]⟩
abbrev S4x2097152x16 : Shape := ⟨3, ![4, 2097152, 16]⟩
abbrev S4x16x2097152 : Shape := ⟨3, ![4, 16, 2097152]⟩
abbrev S1x16x1 : Shape := ⟨3, ![1, 16, 1]⟩
abbrev S4x2097152x1 : Shape := ⟨3, ![4, 2097152, 1]⟩
abbrev S4x1x2097152 : Shape := ⟨3, ![4, 1, 2097152]⟩
abbrev S1x1x1 : Shape := ⟨3, ![1, 1, 1]⟩
abbrev S4x128x16384 : Shape := ⟨3, ![4, 128, 16384]⟩

abbrev nBuf : Space → Nat
  | .hbm => 123
  | .vmem => 0
  | .smem => 0
  | _ => 0

abbrev bufTy : (tb : Table) → Fin (tcTables nBuf tb) → BufTy
  | .hbm, ⟨0, _⟩ => ⟨S4x128x128x128, .f32⟩
  | .hbm, ⟨1, _⟩ => ⟨S64x128, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S16x32, .f32⟩
  | .hbm, ⟨6, _⟩ => ⟨S16, .f32⟩
  | .hbm, ⟨7, _⟩ => ⟨S32x17, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S16x32, .f32⟩
  | .hbm, ⟨12, _⟩ => ⟨S16, .f32⟩
  | .hbm, ⟨13, _⟩ => ⟨S1x16, .f32⟩
  | .hbm, ⟨14, _⟩ => ⟨S1, .f32⟩
  | .hbm, ⟨15, _⟩ => ⟨S4x128x128x64, .f32⟩
  | .hbm, ⟨16, _⟩ => ⟨S4x64x128x128, .f32⟩
  | .hbm, ⟨17, _⟩ => ⟨S1x64x1x1, .f32⟩
  | .hbm, ⟨18, _⟩ => ⟨S4x64x128x128, .f32⟩
  | .hbm, ⟨19, _⟩ => ⟨S4x64x128x128, .f32⟩
  | .hbm, ⟨20, _⟩ => ⟨S_, .f32⟩
  | .hbm, ⟨21, _⟩ => ⟨S4x64x128x128, .f32⟩
  | .hbm, ⟨22, _⟩ => ⟨S4x64x128x128, .i1⟩
  | .hbm, ⟨23, _⟩ => ⟨S_, .f32⟩
  | .hbm, ⟨24, _⟩ => ⟨S4x64x128x128, .f32⟩
  | .hbm, ⟨25, _⟩ => ⟨S4x64x128x128, .f32⟩
  | .hbm, ⟨26, _⟩ => ⟨S4x64x128x128, .f32⟩
  | .hbm, ⟨27, _⟩ => ⟨S4x128x128x32, .f32⟩
  | .hbm, ⟨28, _⟩ => ⟨S4x32x128x128, .f32⟩
  | .hbm, ⟨29, _⟩ => ⟨S1x32x1x1, .f32⟩
  | .hbm, ⟨30, _⟩ => ⟨S4x32x128x128, .f32⟩
  | .hbm, ⟨31, _⟩ => ⟨S4x32x128x128, .f32⟩
  | .hbm, ⟨32, _⟩ => ⟨S_, .f32⟩
  | .hbm, ⟨33, _⟩ => ⟨S4x32x128x128, .f32⟩
  | .hbm, ⟨34, _⟩ => ⟨S4x32x128x128, .i1⟩
  | .hbm, ⟨35, _⟩ => ⟨S_, .f32⟩
  | .hbm, ⟨36, _⟩ => ⟨S4x32x128x128, .f32⟩
  | .hbm, ⟨37, _⟩ => ⟨S4x32x128x128, .f32⟩
  | .hbm, ⟨38, _⟩ => ⟨S4x32x128x128, .f32⟩
  | .hbm, ⟨39, _⟩ => ⟨S4x128x128x16, .f32⟩
  | .hbm, ⟨40, _⟩ => ⟨S4x16x128x128, .f32⟩
  | .hbm, ⟨41, _⟩ => ⟨S1x16x1x1, .f32⟩
  | .hbm, ⟨42, _⟩ => ⟨S4x16x128x128, .f32⟩
  | .hbm, ⟨43, _⟩ => ⟨S4x16x128x128, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S127, .f32⟩
  | .hbm, ⟨52, _⟩ => ⟨S_, .f32⟩
  | .hbm, ⟨53, _⟩ => ⟨S127, .f32⟩
  | .hbm, ⟨54, _⟩ => ⟨S127, .f32⟩
  | .hbm, ⟨55, _⟩ => ⟨S1, .f32⟩
  | .hbm, ⟨56, _⟩ => ⟨S_, .f32⟩
  | .hbm, ⟨57, _⟩ => ⟨S127, .f32⟩
  | .hbm, ⟨58, _⟩ => ⟨S127, .f32⟩
  | .hbm, ⟨59, _⟩ => ⟨S127, .f32⟩
  | .hbm, ⟨60, _⟩ => ⟨S127, .f32⟩
  | .hbm, ⟨61, _⟩ => ⟨S1, .f32⟩
  | .hbm, ⟨62, _⟩ => ⟨S127, .f32⟩
  | .hbm, ⟨63, _⟩ => ⟨S127, .f32⟩
  | .hbm, ⟨64, _⟩ => ⟨S127, .f32⟩
  | .hbm, ⟨65, _⟩ => ⟨S1, .f32⟩
  | .hbm, ⟨66, _⟩ => ⟨S128, .f32⟩
  | .hbm, ⟨67, _⟩ => ⟨S1x1x128x1x1, .f32⟩
  | .hbm, ⟨68, _⟩ => ⟨S4x1x128x128x128, .f32⟩
  | .hbm, ⟨69, _⟩ => ⟨S4x16x1x128x128, .f32⟩
  | .hbm, ⟨70, _⟩ => ⟨S4x16x128x128x128, .f32⟩
  | .hbm, ⟨71, _⟩ => ⟨S4x17x128x128x128, .f32⟩
  | .hbm, ⟨72, _⟩ => ⟨S4x17x2097152, .f32⟩
  | .hbm, ⟨73, _⟩ => ⟨S4x2097152x32, .f32⟩
  | .hbm, ⟨74, _⟩ => ⟨S4x32x2097152, .f32⟩
  | .hbm, ⟨75, _⟩ => ⟨S1x32x1, .f32⟩
  | .hbm, ⟨76, _⟩ => ⟨S4x32x2097152, .f32⟩
  | .hbm, ⟨77, _⟩ => ⟨S4x32x2097152, .f32⟩
  | .hbm, ⟨78, _⟩ => ⟨S_, .f32⟩
  | .hbm, ⟨79, _⟩ => ⟨S4x32x2097152, .f32⟩
  | .hbm, ⟨80, _⟩ => ⟨S4x32x2097152, .i1⟩
  | .hbm, ⟨81, _⟩ => ⟨S_, .f32⟩
  | .hbm, ⟨82, _⟩ => ⟨S4x32x2097152, .f32⟩
  | .hbm, ⟨83, _⟩ => ⟨S4x32x2097152, .f32⟩
  | .hbm, ⟨84, _⟩ => ⟨S4x32x2097152, .f32⟩
  | .hbm, ⟨85, _⟩ => ⟨S4x2097152x32, .f32⟩
  | .hbm, ⟨86, _⟩ => ⟨S4x32x2097152, .f32⟩
  | .hbm, ⟨87, _⟩ => ⟨S1x32x1, .f32⟩
  | .hbm, ⟨88, _⟩ => ⟨S4x32x2097152, .f32⟩
  | .hbm, ⟨89, _⟩ => ⟨S4x32x2097152, .f32⟩
  | .hbm, ⟨90, _⟩ => ⟨S_, .f32⟩
  | .hbm, ⟨91, _⟩ => ⟨S4x32x2097152, .f32⟩
  | .hbm, ⟨92, _⟩ => ⟨S4x32x2097152, .i1⟩
  | .hbm, ⟨93, _⟩ => ⟨S_, .f32⟩
  | .hbm, ⟨94, _⟩ => ⟨S4x32x2097152, .f32⟩
  | .hbm, ⟨95, _⟩ => ⟨S4x32x2097152, .f32⟩
  | .hbm, ⟨96, _⟩ => ⟨S4x32x2097152, .f32⟩
  | .hbm, ⟨97, _⟩ => ⟨S4x2097152x16, .f32⟩
  | .hbm, ⟨98, _⟩ => ⟨S4x16x2097152, .f32⟩
  | .hbm, ⟨99, _⟩ => ⟨S1x16x1, .f32⟩
  | .hbm, ⟨100, _⟩ => ⟨S4x16x2097152, .f32⟩
  | .hbm, ⟨101, _⟩ => ⟨S4x16x2097152, .f32⟩
  | .hbm, ⟨102, _⟩ => ⟨S_, .f32⟩
  | .hbm, ⟨103, _⟩ => ⟨S4x16x2097152, .f32⟩
  | .hbm, ⟨104, _⟩ => ⟨S4x16x2097152, .i1⟩
  | .hbm, ⟨105, _⟩ => ⟨S_, .f32⟩
  | .hbm, ⟨106, _⟩ => ⟨S4x16x2097152, .f32⟩
  | .hbm, ⟨107, _⟩ => ⟨S4x16x2097152, .f32⟩
  | .hbm, ⟨108, _⟩ => ⟨S4x16x2097152, .f32⟩
  | .hbm, ⟨109, _⟩ => ⟨S4x2097152x1, .f32⟩
  | .hbm, ⟨110, _⟩ => ⟨S4x1x2097152, .f32⟩
  | .hbm, ⟨111, _⟩ => ⟨S1x1x1, .f32⟩
  | .hbm, ⟨112, _⟩ => ⟨S4x1x2097152, .f32⟩
  | .hbm, ⟨113, _⟩ => ⟨S4x1x2097152, .f32⟩
  | .hbm, ⟨114, _⟩ => ⟨S4x1x2097152, .f32⟩
  | .hbm, ⟨115, _⟩ => ⟨S4x1x2097152, .f32⟩
  | .hbm, ⟨116, _⟩ => ⟨S_, .f32⟩
  | .hbm, ⟨117, _⟩ => ⟨S4x1x2097152, .f32⟩
  | .hbm, ⟨118, _⟩ => ⟨S4x1x2097152, .f32⟩
  | .hbm, ⟨119, _⟩ => ⟨S_, .f32⟩
  | .hbm, ⟨120, _⟩ => ⟨S4x1x2097152, .f32⟩
  | .hbm, ⟨121, _⟩ => ⟨S4x1x2097152, .f32⟩
  | .hbm, ⟨122, _⟩ => ⟨S4x128x16384, .f32⟩
  | _, _ => ⟨S4x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_cst_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_cst : Ref sig .tc := ⟨.hbm, 49, rfl⟩
abbrev main_call2_v3 : Ref sig .tc := ⟨.hbm, 50, rfl⟩
abbrev main_call2_v4 : Ref sig .tc := ⟨.hbm, 51, rfl⟩
abbrev main_call2_cst_0 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_cst_1 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_v15 : Ref sig .tc := ⟨.hbm, 64, rfl⟩
abbrev main_call2_v16 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_5 : Ref sig .tc := ⟨.hbm, 78, rfl⟩
abbrev main_v37 : Ref sig .tc := ⟨.hbm, 79, rfl⟩
abbrev main_v38 : Ref sig .tc := ⟨.hbm, 80, rfl⟩
abbrev main_cst_6 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_7 : Ref sig .tc := ⟨.hbm, 90, rfl⟩
abbrev main_v47 : Ref sig .tc := ⟨.hbm, 91, rfl⟩
abbrev main_v48 : Ref sig .tc := ⟨.hbm, 92, rfl⟩
abbrev main_cst_8 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_9 : Ref sig .tc := ⟨.hbm, 102, rfl⟩
abbrev main_v57 : Ref sig .tc := ⟨.hbm, 103, rfl⟩
abbrev main_v58 : Ref sig .tc := ⟨.hbm, 104, rfl⟩
abbrev main_cst_10 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_11 : Ref sig .tc := ⟨.hbm, 116, rfl⟩
abbrev main_v69 : Ref sig .tc := ⟨.hbm, 117, rfl⟩
abbrev main_v70 : Ref sig .tc := ⟨.hbm, 118, rfl⟩
abbrev main_cst_12 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩

abbrev nD : Nat := 1
abbrev τ : Topo := Topo.v7x

variable {F : FTy → Type} [FloatOps F]
-- ==== Proof.Spec.lean ====
/-
  The function that both programs compute, written over plain families of extended reals: one voxel column of the
  three channel-mixing layers, the first layer of the per-voxel network split in its feature part (`base`) and its
  depth part, and the three layers after it (`head`). No program is mentioned here.
-/
module

public import Idealize.ShloMosaic.Lib.Pointwise
public import Idealize.ShloMosaic.Lib.IdealHost

@[expose] public section

noncomputable section

namespace Cert.Spec

open Idealize.ShloMosaic

/-- The slope of the leaky rectifier on negative numbers: the number that the float32 word of 0.01 denotes. -/
def slope : EReal := ((5368709 / 536870912 : ℝ) : EReal)

/-- The leaky rectifier, as a maximum. -/
def leaky (x : EReal) : EReal := max x (slope * x)

/-- The leaky rectifier by cases is the maximum: the slope lies between zero and one. -/
theorem leaky_of_cases (x : EReal) : (if 0 ≤ x then x else slope * x) = leaky x := by
  unfold leaky
  split
  · rename_i h
    have h1 : slope ≤ 1 := by
      unfold slope
      exact_mod_cast (by norm_num : (5368709 / 536870912 : ℝ) ≤ 1)
    exact (max_eq_left (mul_le_of_le_one_left h h1)).symm
  · rename_i h
    refine (max_eq_right ?_).symm
    have h0 : (0 : ℝ) < 5368709 / 536870912 := by norm_num
    induction x with
    | bot => exact bot_le
    | top => exact absurd le_top h
    | coe r =>
      have hr : r < 0 := by
        rw [not_le] at h
        exact_mod_cast h
      unfold slope
      rw [← EReal.coe_mul, EReal.coe_le_coe_iff]
      nlinarith

/-- One dense layer: each output is a weighted sum of the inputs plus a bias. -/
def dense {n k : ℕ} (w : Fin n → Fin k → EReal) (b : Fin n → EReal) (x : Fin k → EReal) (o : Fin n) : EReal :=
  (∑ c, w o c * x c) + b o

/-- The three channel-mixing layers on one voxel column. -/
def feat (w1 : Fin 64 → Fin 128 → EReal) (b1 : Fin 64 → EReal) (w2 : Fin 32 → Fin 64 → EReal) (b2 : Fin 32 → EReal)
    (w3 : Fin 16 → Fin 32 → EReal) (b3 : Fin 16 → EReal) (x : Fin 128 → EReal) : Fin 16 → EReal :=
  dense w3 b3 fun a => leaky (dense w2 b2 (fun c => leaky (dense w1 b1 x c)) a)

/-- The depth coordinate of slice `d` of 128: evenly spaced from minus one to one. -/
def coord (d : ℕ) : EReal := (((d : ℝ) * (2 / 127) - 1 : ℝ) : EReal)

/-- The three layers after the first one, from its output before the rectifier, and the logistic function. -/
def head (u2 : Fin 32 → Fin 32 → EReal) (c2 : Fin 32 → EReal) (u3 : Fin 16 → Fin 32 → EReal) (c3 : Fin 16 → EReal)
    (u4 : Fin 1 → Fin 16 → EReal) (c4 : Fin 1 → EReal) (h : Fin 32 → EReal) : EReal :=
  Ideal.logistic (dense u4 c4 (fun a => leaky (dense u3 c3 (fun c => leaky (dense u2 c2 (fun e => leaky (h e)) c)) a)) 0)

/-- The first layer's output before the rectifier, at depth coordinate `p`, from its feature part and the weights of
    the depth channel. -/
def shifted (base : Fin 32 → EReal) (v : Fin 32 → EReal) (p : EReal) (o : Fin 32) : EReal := base o + v o * p

/-- The first layer over seventeen channels, the last one the depth coordinate, is the feature part shifted. -/
theorem dense_split (w : Fin 32 → Fin 17 → EReal) (b : Fin 32 → EReal) (f : Fin 17 → EReal) (o : Fin 32) :
    dense w b f o = shifted (dense (fun o c => w o c.castSucc) b fun c => f c.castSucc) (fun o => w o (Fin.last 16))
      (f (Fin.last 16)) o := by
  unfold dense shifted
  rw [Fin.sum_univ_castSucc, add_right_comm]

/-- An array of extended reals with one, two or four axes. -/
abbrev Arr1 (a : ℕ) : Type := (Shape.mk 1 ![a]).Idx → EReal
abbrev Arr2 (a b : ℕ) : Type := (Shape.mk 2 ![a, b]).Idx → EReal
abbrev Arr4 (a b c d : ℕ) : Type := (Shape.mk 4 ![a, b, c, d]).Idx → EReal

/-- The feature part of the first layer at image `b` and pixel `p`, from the arguments. -/
def baseAt (x : Arr4 4 128 128 128) (w1 : Arr2 64 128) (b1 : Arr1 64) (w2 : Arr2 32 64) (b2 : Arr1 32) (w3 : Arr2 16 32)
    (b3 : Arr1 16) (u1 : Arr2 32 17) (c1 : Arr1 32) (b : Fin 4) (p : Fin 16384) : Fin 32 → EReal :=
  dense (fun o c => u1 (ix2 o (Fin.castSucc c))) (fun o => c1 (ix1 o))
    (feat (fun o c => w1 (ix2 o c)) (fun o => b1 (ix1 o)) (fun o c => w2 (ix2 o c)) (fun o => b2 (ix1 o))
      (fun o c => w3 (ix2 o c)) (fun o => b3 (ix1 o))
      fun c => x (ix4 b c ⟨p.val / 128, by omega⟩ ⟨p.val % 128, by omega⟩))

/-- The last three layers and the logistic function, with their weights read from the arguments. -/
def headAt (u2 : Arr2 32 32) (c2 : Arr1 32) (u3 : Arr2 16 32) (c3 : Arr1 16) (u4 : Arr2 1 16) (c4 : Arr1 1) :
    (Fin 32 → EReal) → EReal :=
  head (fun a b => u2 (ix2 a b)) (fun a => c2 (ix1 a)) (fun a b => u3 (ix2 a b)) (fun a => c3 (ix1 a))
    (fun a b => u4 (ix2 a b)) (fun a => c4 (ix1 a))

/-- The whole result: entry (b, d, p) is the network's answer at image `b`, depth slice `d` and pixel `p`. -/
def net (x : Arr4 4 128 128 128) (w1 : Arr2 64 128) (b1 : Arr1 64) (w2 : Arr2 32 64) (b2 : Arr1 32) (w3 : Arr2 16 32)
    (b3 : Arr1 16) (u1 : Arr2 32 17) (c1 : Arr1 32) (u2 : Arr2 32 32) (c2 : Arr1 32) (u3 : Arr2 16 32) (c3 : Arr1 16)
    (u4 : Arr2 1 16) (c4 : Arr1 1) (j : (Shape.mk 3 ![4, 128, 16384]).Idx) : EReal :=
  headAt u2 c2 u3 c3 u4 c4 (shifted (baseAt x w1 b1 w2 b2 w3 b3 u1 c1 (j 0) (j 2))
    (fun o => u1 (ix2 o (Fin.last 16))) (coord (j 1).val))

end Cert.Spec

end
-- ==== Proof.Block.lean ====
/-
  What one grid point computes, read entry by entry over the extended reals: the feature part that is kept in scratch
  (`base_apply`), the eight depth slices that are laid side by side (`slice…`, `wide_apply`) and the three layers after
  them (`logit_apply`).
-/
module

public import proofs.«01_k».proof.Proof.Spec
public import proofs.«01_k».proof.Proof.Gen.KernelIdeal.Skeleton

@[expose] public section

set_option maxRecDepth 16384

noncomputable section

namespace Cert.KernelIdeal.Block

open Idealize.ShloMosaic Cert.KernelIdeal Cert.KernelIdeal.Gen Cert.Spec

/-- The named slope, at float32. -/
theorem slope_f32 : Named.named (F := Ideal) κ "slope" (φ := .f32) 0x3C23D70A#32 = slope :=
  IdealRules.named_const.ideal_named_scalar _ _ _ _ rfl

/-- The named slope, at bfloat16: the same number. -/
theorem slope_bf16 : Named.named (F := Ideal) κ "slope" (φ := .bf16) 0x3C24#16 = slope :=
  IdealRules.named_const.ideal_named_scalar _ _ _ _ rfl

/-- The named step between neighbouring depth coordinates. -/
theorem step_f32 : Named.named (F := Ideal) κ "step" (φ := .f32) 0x3C810204#32 = ((2 / 127 : ℝ) : EReal) :=
  IdealRules.named_const.ideal_named_scalar _ _ _ _ rfl

/-- The kept array: entry (o, q) is the feature part of the first layer on voxel column q of the block. -/
theorem base_apply (x0 : Vec Ideal S1x128x8192 .f32) (x1 : Vec Ideal S64x128 .f32) (x2 : Vec Ideal S64x1 .f32)
    (x3 : Vec Ideal S32x64 .f32) (x4 : Vec Ideal S32x1 .f32) (x5 : Vec Ideal S16x32 .f32) (x6 : Vec Ideal S16x1 .f32)
    (x7 : Vec Ideal S32x16 .f32) (x9 : Vec Ideal S32x1 .f32) (o : Fin 32) (q : Fin 8192) :
    k0_pay2 (F := Ideal) x0 x1 x2 x3 x4 x5 x6 x7 x9 (ix2 o q)
      = dense (fun o c => x7 (ix2 o c)) (fun o => x9 (ix2 o 0))
          (feat (fun o c => x1 (ix2 o c)) (fun o => x2 (ix2 o 0)) (fun o c => x3 (ix2 o c)) (fun o => x4 (ix2 o 0))
            (fun o c => x5 (ix2 o c)) (fun o => x6 (ix2 o 0)) fun c => x0 (ix3 0 c q)) o := by
  pointwise [k0_pay2, dense, feat, leaky, slope_f32]

/-- The word of a depth slice's number, read as an integer: eight times the grid coordinate plus the slice. -/
theorem slice_word : ∀ (n : Fin 16) (d : Fin 8),
    (Scalar.addi (Scalar.muli (BitVec.ofNat 32 n.val) 8#32) (BitVec.ofNat 32 d.val)).toInt = ((8 * n.val + d.val : ℕ) : ℤ) := by
  decide +kernel

/-- The coordinate computed from that word. -/
theorem slice_coord (n : Fin 16) (d : Fin 8) :
    (((Scalar.addi (Scalar.muli (BitVec.ofNat 32 n.val) 8#32) (BitVec.ofNat 32 d.val)).toInt : ℝ) : EReal)
        * ((2 / 127 : ℝ) : EReal) - 1 = coord (8 * n.val + d.val) := by
  rw [slice_word, coord, ← EReal.coe_mul, ← EReal.coe_one, ← EReal.coe_sub]
  norm_cast

/-- Depth slice `d` of a block: the kept array shifted by the depth channel at the slice's coordinate. -/
def slab (n : Fin 16) (x : Vec Ideal S32x8192 .f32) (v : Vec Ideal S32x1 .f32) (d : Fin 8) : FVec Ideal S32x8192 .bf16 :=
  fun y => shifted (fun o => x (ix2 o (y 1))) (fun o => v (ix2 o 0)) (coord (8 * n.val + d.val)) (y 0)

/-- An array is slice `d` if each entry is the kept one plus the depth channel times the coordinate computed from the
    slice's word. -/
theorem slab_of {n : Fin 16} {x : Vec Ideal S32x8192 .f32} {v : Vec Ideal S32x1 .f32} (d : Fin 8)
    {s : FVec Ideal S32x8192 .bf16} (h : ∀ (o : Fin 32) (q : Fin 8192), (s (ix2 o q) : EReal) = x (ix2 o q) + v (ix2 o 0)
      * ((((Scalar.addi (Scalar.muli (BitVec.ofNat 32 n.val) 8#32) (BitVec.ofNat 32 d.val)).toInt : ℝ) : EReal)
        * ((2 / 127 : ℝ) : EReal) - 1)) : s = slab n x v d := by
  funext y
  obtain ⟨o, q, rfl⟩ : ∃ (o : Fin 32) (q : Fin 8192), y = ix2 o q := ⟨y 0, y 1, by idx_vars y⟩
  rw [h o q, slice_coord]
  rfl

/-- The eight slices as the kernel computes them. -/
theorem slices (i : grid0.Coords) (n : Fin 16) (h : (i 2).val = n.val) (x : Vec Ideal S32x8192 .f32)
    (v : Vec Ideal S32x1 .f32) :
    k0_pay6 (F := Ideal) i x v = slab n x v 0 ∧ k0_pay7 (F := Ideal) i x v = slab n x v 1
      ∧ k0_pay8 (F := Ideal) i x v = slab n x v 2
      ∧ k0_pay9 (F := Ideal) (BitVec.ofNat 32 (i 2).val) (k0_pay4 x) (k0_pay5 v) 8#32 = slab n x v 3
      ∧ k0_pay10 (F := Ideal) (BitVec.ofNat 32 (i 2).val) (k0_pay4 x) (k0_pay5 v) = slab n x v 4
      ∧ k0_pay11 (F := Ideal) (BitVec.ofNat 32 (i 2).val) (k0_pay4 x) (k0_pay5 v) = slab n x v 5
      ∧ k0_pay12 (F := Ideal) (BitVec.ofNat 32 (i 2).val) (k0_pay4 x) (k0_pay5 v) = slab n x v 6
      ∧ (addf (k0_pay4 x) (broadcastTo S32x8192 (truncf .bf16 (mulf (k0_pay5 v) (broadcast S32x1
          (Scalar.subf (Scalar.mulf (k0_pay13 (F := Ideal) (BitVec.ofNat 32 (i 2).val)) (Named.named κ "step" 0x3C810204#32))
            (Scalar.ofBits .f32 0x3F800000#32)))) bitsLt_bf16_f32) broadcasts_S32x1_S32x8192) : FVec Ideal S32x8192 .bf16)
        = slab n x v 7 := by
  refine ⟨slab_of 0 ?_, slab_of 1 ?_, slab_of 2 ?_, slab_of 3 ?_, slab_of 4 ?_, slab_of 5 ?_, slab_of 6 ?_, slab_of 7 ?_⟩
  all_goals
    intro o q
    pointwise [k0_pay6, k0_pay7, k0_pay8, k0_pay9, k0_pay10, k0_pay11, k0_pay12, k0_pay13, k0_pay5, k0_pay4, step_f32]
    rw [h]

/-- Eight slices laid side by side. -/
def wide (P : Fin 8 → FVec Ideal S32x8192 .bf16) : FVec Ideal S32x65536 .bf16 :=
  concatenate S32x65536 1 [⟨S32x8192, P 0⟩, ⟨S32x8192, P 1⟩, ⟨S32x8192, P 2⟩, ⟨S32x8192, P 3⟩, ⟨S32x8192, P 4⟩,
    ⟨S32x8192, P 5⟩, ⟨S32x8192, P 6⟩, ⟨S32x8192, P 7⟩]
    concatenates_S32x8192_S32x8192_S32x8192_S32x8192_S32x8192_S32x8192_S32x8192_S32x8192_S32x65536_d1

/-- A choice between two values that are both `v` is `v`. -/
theorem either {p : Prop} [Decidable p] {α : Type} (f : p → α) (g : ¬p → α) (v : α) (hf : ∀ h, f h = v)
    (hg : ∀ h, g h = v) : dite p f g = v := by
  by_cases h : p
  · rw [dif_pos h, hf]
  · rw [dif_neg h, hg]

/-- Column 8192 d + q of them is column q of slice d. -/
theorem wide_apply (P : Fin 8 → FVec Ideal S32x8192 .bf16) (o : Fin 32) (d : Fin 8) (q : Fin 8192)
    (h : 8192 * d.val + q.val < 65536) : wide P (ix2 o ⟨8192 * d.val + q.val, h⟩) = P d (ix2 o q) := by
  have hq := q.isLt
  have hd := d.isLt
  have key : ∀ (e : Fin 8) (r : Fin 8192), d.val = e.val → r.val = q.val → P e (ix2 o r) = P d (ix2 o q) := by
    intro e r he hr
    rw [Fin.ext he, Fin.ext hr]
  pointwise [wide]
  refine either _ _ _ (fun _ => key 0 _ (show d.val = 0 by omega) ?_) fun _ => ?_
  · show 8192 * d.val + q.val = q.val; omega
  refine either _ _ _ (fun _ => key 1 _ (show d.val = 1 by omega) ?_) fun _ => ?_
  · show 8192 * d.val + q.val - 8192 = q.val; omega
  refine either _ _ _ (fun _ => key 2 _ (show d.val = 2 by omega) ?_) fun _ => ?_
  · show 8192 * d.val + q.val - 8192 - 8192 = q.val; omega
  refine either _ _ _ (fun _ => key 3 _ (show d.val = 3 by omega) ?_) fun _ => ?_
  · show 8192 * d.val + q.val - 8192 - 8192 - 8192 = q.val; omega
  refine either _ _ _ (fun _ => key 4 _ (show d.val = 4 by omega) ?_) fun _ => ?_
  · show 8192 * d.val + q.val - 8192 - 8192 - 8192 - 8192 = q.val; omega
  refine either _ _ _ (fun _ => key 5 _ (show d.val = 5 by omega) ?_) fun _ => ?_
  · show 8192 * d.val + q.val - 8192 - 8192 - 8192 - 8192 - 8192 = q.val; omega
  refine either _ _ _ (fun _ => key 6 _ (show d.val = 6 by omega) ?_) fun _ => ?_
  · show 8192 * d.val + q.val - 8192 - 8192 - 8192 - 8192 - 8192 - 8192 = q.val; omega
  refine key 7 _ (show d.val = 7 by omega) ?_
  show 8192 * d.val + q.val - 8192 - 8192 - 8192 - 8192 - 8192 - 8192 - 8192 = q.val; omega

/-- The last three layers on the eight slices, before the logistic function. -/
theorem logit_apply (i : grid0.Coords) (n : Fin 16) (h : (i 2).val = n.val) (x : Vec Ideal S32x8192 .f32)
    (v : Vec Ideal S32x1 .f32) (u2 : Vec Ideal S32x32 .bf16) (c2 : Vec Ideal S32x1 .bf16) (u3 : Vec Ideal S16x32 .bf16)
    (c3 : Vec Ideal S16x1 .bf16) (u4 : Vec Ideal S1x16 .bf16) (c4 : Vec Ideal S1x1 .f32) (d : Fin 8) (q : Fin 8192)
    (hd : 8192 * d.val + q.val < 65536) :
    Ideal.logistic (k0_pay14 (F := Ideal) (k0_pay4 x) (k0_pay5 v) (k0_pay6 i x v) (k0_pay7 i x v) (k0_pay8 i x v)
      (k0_pay9 (BitVec.ofNat 32 (i 2).val) (k0_pay4 x) (k0_pay5 v) 8#32)
      (k0_pay10 (BitVec.ofNat 32 (i 2).val) (k0_pay4 x) (k0_pay5 v))
      (k0_pay11 (BitVec.ofNat 32 (i 2).val) (k0_pay4 x) (k0_pay5 v))
      (k0_pay12 (BitVec.ofNat 32 (i 2).val) (k0_pay4 x) (k0_pay5 v)) (k0_pay13 (BitVec.ofNat 32 (i 2).val))
      u2 c2 u3 c3 u4 c4 (ix2 0 ⟨8192 * d.val + q.val, hd⟩))
    = head (fun a b => u2 (ix2 a b)) (fun a => c2 (ix2 a 0)) (fun a b => u3 (ix2 a b)) (fun a => c3 (ix2 a 0))
        (fun a b => u4 (ix2 a b)) (fun a => c4 (ix2 a 0))
        (shifted (fun o => x (ix2 o q)) (fun o => v (ix2 o 0)) (coord (8 * n.val + d.val))) := by
  obtain ⟨h0, h1, h2, h3, h4, h5, h6, h7⟩ := slices i n h x v
  have hw : ∀ o : Fin 32, shifted (fun o => x (ix2 o q)) (fun o => v (ix2 o 0)) (coord (8 * n.val + d.val)) o
      = wide (slab n x v) (ix2 o ⟨8192 * d.val + q.val, hd⟩) := fun o => (wide_apply (slab n x v) o d q hd).symm
  rw [h0, h1, h2, h3, h4, h5, h6]
  unfold k0_pay14
  dsimp only
  rw [h7]
  rw [show concatenate S32x65536 1 [⟨S32x8192, slab n x v 0⟩, ⟨S32x8192, slab n x v 1⟩, ⟨S32x8192, slab n x v 2⟩,
    ⟨S32x8192, slab n x v 3⟩, ⟨S32x8192, slab n x v 4⟩, ⟨S32x8192, slab n x v 5⟩, ⟨S32x8192, slab n x v 6⟩,
    ⟨S32x8192, slab n x v 7⟩] concatenates_S32x8192_S32x8192_S32x8192_S32x8192_S32x8192_S32x8192_S32x8192_S32x8192_S32x65536_d1
    = wide (slab n x v) from rfl]
  unfold head
  simp only [hw]
  generalize wide (slab n x v) = W
  pointwise [dense, leaky, slope_bf16]

end Cert.KernelIdeal.Block

end
-- ==== Proof.Reads.lean ====
/-
  What the input windows show at a grid point, read entry by entry from the arguments: the pixel block of one image,
  and the weights and biases, which are whole at every point. The host's reshapes, the cut of the first layer's weights
  into features and depth, and the casts of the later layers' weights are read away here.
-/
module

public import proofs.«01_k».proof.Proof.Spec
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.KernelIdeal.Block

open Idealize.ShloMosaic Idealize.ShloMosaic.TcCoe Cert.KernelIdeal Cert.KernelIdeal.Gen Cert.Spec

variable (m : (ℓ : Loc nD τ sig) → Buf (Elt Ideal) ℓ)

/-- Where the pixel window and the result window stand at each grid point, and the point's third coordinate. -/
theorem places : ∀ t : Fin cfg0.N, win0_0.index t = ![t.val / 32, 0, t.val / 16 % 2]
    ∧ win0_16.index t = ![t.val / 32, t.val % 16, t.val / 16 % 2] ∧ (grid0.coords t 2).val = t.val % 16 :=
  (by decide +kernel : ∀ t : Fin grid0.N, win0_0.index t = ![t.val / 32, 0, t.val / 16 % 2]
    ∧ win0_16.index t = ![t.val / 32, t.val % 16, t.val / 16 % 2] ∧ (grid0.coords t 2).val = t.val % 16)

/-- The windows of weights and biases stand at their arrays' origin at each grid point. -/
theorem still : ∀ t : Fin cfg0.N, win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0] :=
  (by decide +kernel : ∀ t : Fin grid0.N, win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0])

/-- The pixel block: channel `k` at column `q` is the image's pixel of that number. -/
theorem x_apply (c : Dev nD) (t : Fin cfg0.N) (k : Fin 128) (q : Fin 8192) (b : Fin 4) (p : Fin 16384)
    (hb : t.val / 32 = b.val) (hp : t.val / 16 % 2 * 8192 + q.val = p.val) :
    (iblk m c 0 t : Vec Ideal S1x128x8192 .f32) (ix3 0 k q)
      = m (c.tc.loc main_arg0) (ix4 b k ⟨p.val / 128, by omega⟩ ⟨p.val % 128, by omega⟩) := by
  blk_simp [iblk, places t]
  unfold V
  after_reads_at
  blk_ext [places t]

/-- The weights of the first channel-mixing layer. -/
theorem w1_apply (c : Dev nD) (t : Fin cfg0.N) (a : Fin 64) (b : Fin 128) :
    (iblk m c 1 t : Vec Ideal S64x128 .f32) (ix2 a b) = m (c.tc.loc main_arg1) (ix2 a b) := by
  blk_ext! [iblk, V, still t]

/-- Its biases, which the host reshapes to a column. -/
theorem b1_apply (c : Dev nD) (t : Fin cfg0.N) (a : Fin 64) :
    (iblk m c 2 t : Vec Ideal S64x1 .f32) (ix2 a 0) = m (c.tc.loc main_arg2) (ix1 a) := by
  blk_simp [iblk, still t]
  unfold V
  after_reads_at
  blk_ext [still t]

/-- The weights of the second channel-mixing layer. -/
theorem w2_apply (c : Dev nD) (t : Fin cfg0.N) (a : Fin 32) (b : Fin 64) :
    (iblk m c 3 t : Vec Ideal S32x64 .f32) (ix2 a b) = m (c.tc.loc main_arg3) (ix2 a b) := by
  blk_ext! [iblk, V, still t]

/-- Its biases. -/
theorem b2_apply (c : Dev nD) (t : Fin cfg0.N) (a : Fin 32) :
    (iblk m c 4 t : Vec Ideal S32x1 .f32) (ix2 a 0) = m (c.tc.loc main_arg4) (ix1 a) := by
  blk_simp [iblk, still t]
  unfold V
  after_reads_at
  blk_ext [still t]

/-- The weights of the third channel-mixing layer. -/
theorem w3_apply (c : Dev nD) (t : Fin cfg0.N) (a : Fin 16) (b : Fin 32) :
    (iblk m c 5 t : Vec Ideal S16x32 .f32) (ix2 a b) = m (c.tc.loc main_arg5) (ix2 a b) := by
  blk_ext! [iblk, V, still t]

/-- Its biases. -/
theorem b3_apply (c : Dev nD) (t : Fin cfg0.N) (a : Fin 16) :
    (iblk m c 6 t : Vec Ideal S16x1 .f32) (ix2 a 0) = m (c.tc.loc main_arg6) (ix1 a) := by
  blk_simp [iblk, still t]
  unfold V
  after_reads_at
  blk_ext [still t]

/-- The feature columns of the network's first layer. -/
theorem u1_apply (c : Dev nD) (t : Fin cfg0.N) (a : Fin 32) (b : Fin 16) :
    (iblk m c 7 t : Vec Ideal S32x16 .f32) (ix2 a b) = m (c.tc.loc main_arg7) (ix2 a (Fin.castSucc b)) := by
  blk_simp [iblk, still t]
  unfold V
  after_reads_at
  blk_ext [still t]
  rfl

/-- The depth column of the network's first layer. -/
theorem v1_apply (c : Dev nD) (t : Fin cfg0.N) (a : Fin 32) :
    (iblk m c 8 t : Vec Ideal S32x1 .f32) (ix2 a 0) = m (c.tc.loc main_arg7) (ix2 a (Fin.last 16)) := by
  blk_simp [iblk, still t]
  unfold V
  after_reads_at
  blk_ext [still t]
  rfl

/-- The first layer's biases. -/
theorem c1_apply (c : Dev nD) (t : Fin cfg0.N) (a : Fin 32) :
    (iblk m c 9 t : Vec Ideal S32x1 .f32) (ix2 a 0) = m (c.tc.loc main_arg8) (ix1 a) := by
  blk_simp [iblk, still t]
  unfold V
  after_reads_at
  blk_ext [still t]

/-- The second layer's weights, cast by the host. -/
theorem u2_apply (c : Dev nD) (t : Fin cfg0.N) (a : Fin 32) (b : Fin 32) :
    (iblk m c 10 t : Vec Ideal S32x32 .bf16) (ix2 a b) = m (c.tc.loc main_arg9) (ix2 a b) := by
  blk_ext! [iblk, V, still t]

/-- The second layer's biases. -/
theorem c2_apply (c : Dev nD) (t : Fin cfg0.N) (a : Fin 32) :
    (iblk m c 11 t : Vec Ideal S32x1 .bf16) (ix2 a 0) = m (c.tc.loc main_arg10) (ix1 a) := by
  blk_simp [iblk, still t]
  unfold V
  after_reads_at
  blk_ext [still t]

/-- The third layer's weights. -/
theorem u3_apply (c : Dev nD) (t : Fin cfg0.N) (a : Fin 16) (b : Fin 32) :
    (iblk m c 12 t : Vec Ideal S16x32 .bf16) (ix2 a b) = m (c.tc.loc main_arg11) (ix2 a b) := by
  blk_ext! [iblk, V, still t]

/-- The third layer's biases. -/
theorem c3_apply (c : Dev nD) (t : Fin cfg0.N) (a : Fin 16) :
    (iblk m c 13 t : Vec Ideal S16x1 .bf16) (ix2 a 0) = m (c.tc.loc main_arg12) (ix1 a) := by
  blk_simp [iblk, still t]
  unfold V
  after_reads_at
  blk_ext [still t]

/-- The last layer's weights. -/
theorem u4_apply (c : Dev nD) (t : Fin cfg0.N) (a : Fin 1) (b : Fin 16) :
    (iblk m c 14 t : Vec Ideal S1x16 .bf16) (ix2 a b) = m (c.tc.loc main_arg13) (ix2 a b) := by
  blk_ext! [iblk, V, still t]

/-- The last layer's bias. -/
theorem c4_apply (c : Dev nD) (t : Fin cfg0.N) (a : Fin 1) :
    (iblk m c 15 t : Vec Ideal S1x1 .f32) (ix2 a 0) = m (c.tc.loc main_arg14) (ix1 a) := by
  blk_simp [iblk, still t]
  unfold V
  after_reads_at
  blk_ext [still t]

end Cert.KernelIdeal.Block

end
-- ==== Proof.Points.lean ====
/-
  What the grid points leave: the kept array is the feature part at every point of a run (`kept_eq`), and the result
  block is the network's answer on the eight depth slices of the point (`out_eq`).
-/
module

public import proofs.«01_k».proof.Proof.Block
public import proofs.«01_k».proof.Proof.Reads
public import Idealize.ShloMosaic.Lib.Pipeline.ReadBack

@[expose] public section

set_option maxRecDepth 16384

noncomputable section

namespace Cert.KernelIdeal.Block

open Idealize.ShloMosaic Idealize.ShloMosaic.TcCoe Cert.KernelIdeal Cert.KernelIdeal.Gen Cert.Spec

variable (m : (ℓ : Loc nD τ sig) → Buf (Elt Ideal) ℓ)

/-- The eight stores of a result block, read at slice `d` and column `q`: the logistic function of column 8192 d + q of
    the row that they are cut from. -/
theorem rows_apply (Z : FVec Ideal S1x65536 .f32) (d : Fin 8) (q : Fin 8192) (h : 8192 * d.val + q.val < 65536) :
    (View.canon (Val := Elt Ideal) (s := S1x8x8192) (e := .f32)
      [⟨Rect.unit ![0, 7, 0] ![1, 1, 8192] inb_S1x8x8192_S1x1x8192_0_7_0, k0_pay1 (k0_pay23 Z)⟩,
        ⟨Rect.unit ![0, 6, 0] ![1, 1, 8192] inb_S1x8x8192_S1x1x8192_0_6_0, k0_pay22 Z⟩,
        ⟨Rect.unit ![0, 5, 0] ![1, 1, 8192] inb_S1x8x8192_S1x1x8192_0_5_0, k0_pay21 Z⟩,
        ⟨Rect.unit ![0, 4, 0] ![1, 1, 8192] inb_S1x8x8192_S1x1x8192_0_4_0, k0_pay20 Z⟩,
        ⟨Rect.unit ![0, 3, 0] ![1, 1, 8192] inb_S1x8x8192_S1x1x8192_0_3_0, k0_pay19 Z⟩,
        ⟨Rect.unit ![0, 2, 0] ![1, 1, 8192] inb_S1x8x8192_S1x1x8192_0_2_0, k0_pay18 Z⟩,
        ⟨Rect.unit ![0, 1, 0] ![1, 1, 8192] inb_S1x8x8192_S1x1x8192_0_1_0, k0_pay17 Z⟩,
        ⟨Rect.unit ![0, 0, 0] ![1, 1, 8192] inb_S1x8x8192_S1x1x8192_0_0_0, k0_pay16 Z⟩]
      (ix3 0 d q) : EReal) = Ideal.logistic (Z (ix2 0 ⟨8192 * d.val + q.val, h⟩)) := by
  refine (View.canon_apply_of_pieces (Val := Elt Ideal) (S := S1x8x8192) (e := .f32) (fun y : S1x8x8192.Idx => (Ideal.logistic
    (Z (ix2 0 ⟨8192 * (y 1).val + (y 2).val, by have h1 : (y 1).val < 8 := (y 1).isLt; have h2 : (y 2).val < 8192 := (y 2).isLt; omega⟩)) : EReal))
    _ ?_ _ ?_)
  · simp only [List.forall_mem_cons]
    refine ⟨fun x => ?_, fun x => ?_, fun x => ?_, fun x => ?_, fun x => ?_, fun x => ?_, fun x => ?_, fun x => ?_,
      fun _ hp => absurd hp List.not_mem_nil⟩
    all_goals
      idx_vars x
      pointwise [k0_pay1, k0_pay23, k0_pay22, k0_pay21, k0_pay20, k0_pay19, k0_pay18, k0_pay17, k0_pay16, k0_pay15]
      refine congrArg (fun k => Ideal.logistic (Z (ix2 0 k))) (Fin.ext ?_)
      simp only [ValueKit.rect_emb_unit_val]
      norm_num
      try rfl
  · exact View.cover_of_tiledL (s := S1x8x8192) _ ![1, 1, 8192] (by sl_kernel_rfl) _

/-- The network's answer at a grid point's slice and column, from what the point's kept array holds. -/
theorem out_eq (c : Dev nD) (t : Fin cfg0.N) (d : Fin 8) (q : Fin 8192) :
    ((outsAt0 m c t.val t.isLt).1 (ix3 0 d q) : EReal)
      = head (fun o k => (iblk m c 10 t : Vec Ideal S32x32 .bf16) (ix2 o k)) (fun o => (iblk m c 11 t : Vec Ideal S32x1 .bf16) (ix2 o 0))
        (fun o k => (iblk m c 12 t : Vec Ideal S16x32 .bf16) (ix2 o k)) (fun o => (iblk m c 13 t : Vec Ideal S16x1 .bf16) (ix2 o 0))
        (fun o k => (iblk m c 14 t : Vec Ideal S1x16 .bf16) (ix2 o k)) (fun o => (iblk m c 15 t : Vec Ideal S1x1 .f32) (ix2 o 0))
        (shifted (fun o => (outsAt0 m c t.val t.isLt).2 (ix2 o q)) (fun o => (iblk m c 8 t : Vec Ideal S32x1 .f32) (ix2 o 0))
          (coord (8 * (t.val % 16) + d.val))) := by
  have hn : (grid0.coords t 2).val = (⟨t.val % 16, by omega⟩ : Fin 16).val := (places t).2.2
  have hd : 8192 * d.val + q.val < 65536 := by omega
  by_cases h : t.val % 16 = 0
  · have hs : (outsAt0 m c t.val t.isLt).2 = k0_pay3 (k0_pay2 (iblk m c 0 t) (iblk m c 1 t) (iblk m c 2 t) (iblk m c 3 t)
        (iblk m c 4 t) (iblk m c 5 t) (iblk m c 6 t) (iblk m c 7 t) (iblk m c 9 t)) := by
      rw [outsAt0_A m c t h]
      frame_out
    rw [hs, outsAt0_A m c t h]
    frame_out
    rw [rows_apply _ _ _ hd]
    exact logit_apply (grid0.coords t) ⟨t.val % 16, by omega⟩ hn _ _ _ _ _ _ _ _ d q hd
  · have hs : (outsAt0 m c t.val t.isLt).2 = (outsAt0 m c (t.val - 1) (by omega)).2 := by
      rw [outsAt0_B m c t h]
      rfl
    rw [hs, outsAt0_B m c t h]
    frame_out
    simp only [read_unread_whole]
    rw [rows_apply _ _ _ hd]
    exact logit_apply (grid0.coords t) ⟨t.val % 16, by omega⟩ hn _ _ _ _ _ _ _ _ d q hd

/-- At the first point of a run the kept array holds the feature part at the run's pixels. -/
theorem kept_first (c : Dev nD) (t : Fin cfg0.N) (h : t.val % 16 = 0) (o : Fin 32) (q : Fin 8192) (b : Fin 4) (p : Fin 16384)
    (hb : t.val / 32 = b.val) (hp : t.val / 16 % 2 * 8192 + q.val = p.val) :
    ((outsAt0 m c t.val t.isLt).2 (ix2 o q) : EReal) = baseAt (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) b p o := by
  have hs : (outsAt0 m c t.val t.isLt).2 = k0_pay3 (k0_pay2 (iblk m c 0 t) (iblk m c 1 t) (iblk m c 2 t) (iblk m c 3 t)
      (iblk m c 4 t) (iblk m c 5 t) (iblk m c 6 t) (iblk m c 7 t) (iblk m c 9 t)) := by
    rw [outsAt0_A m c t h]
    frame_out
  rw [hs]
  refine Eq.trans (b := k0_pay2 (F := Ideal) (iblk m c 0 t) (iblk m c 1 t) (iblk m c 2 t) (iblk m c 3 t)
      (iblk m c 4 t) (iblk m c 5 t) (iblk m c 6 t) (iblk m c 7 t) (iblk m c 9 t) (ix2 o q)) ?_ ?_
  · pointwise [k0_pay3]
  · rw [base_apply]
    simp only [x_apply m c t _ q b p hb hp, w1_apply, b1_apply, w2_apply, b2_apply, w3_apply, b3_apply, u1_apply, c1_apply]
    rfl

/-- The point before one that is not a run's first belongs to the same run. -/
theorem before (t n : ℕ) (h : t % 16 = n + 1) : (t - 1) % 16 = n ∧ (t - 1) / 32 = t / 32 ∧ (t - 1) / 16 % 2 = t / 16 % 2 := by
  have h16 : (t - 1) / 16 = t / 16 := by omega
  refine ⟨by omega, by omega, by rw [h16]⟩

/-- At every point the kept array holds the feature part at the point's pixels: a run's later points leave it as it is. -/
theorem kept_eq (c : Dev nD) (o : Fin 32) (q : Fin 8192) (b : Fin 4) (p : Fin 16384) (n : ℕ) (t : Fin cfg0.N)
    (hn : t.val % 16 = n) (hb : t.val / 32 = b.val) (hp : t.val / 16 % 2 * 8192 + q.val = p.val) :
    ((outsAt0 m c t.val t.isLt).2 (ix2 o q) : EReal) = baseAt (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) b p o := by
  induction n generalizing t with
  | zero => exact kept_first m c t hn o q b p hb hp
  | succ n ih =>
    have ht : t.val - 1 < cfg0.N := lt_of_le_of_lt (Nat.sub_le _ _) t.isLt
    have hs : (outsAt0 m c t.val t.isLt).2 = (outsAt0 m c (t.val - 1) ht).2 := by
      rw [outsAt0_B m c t (by omega)]
      rfl
    rw [hs]
    obtain ⟨h1, h2, h3⟩ := before t.val n hn
    exact ih ⟨t.val - 1, ht⟩ h1 (h2.trans hb) ((congrArg (fun k => k * 8192 + q.val) h3).trans hp)

end Cert.KernelIdeal.Block

end
-- ==== Proof.Array.lean ====
/-
  What the kernel's result array holds after the run: the network at every image, depth and pixel (`result_eq`).
-/
module

public import proofs.«01_k».proof.Proof.Points

@[expose] public section

set_option maxRecDepth 16384

noncomputable section

namespace Cert.KernelIdeal.Block

open Idealize.ShloMosaic Idealize.ShloMosaic.TcCoe Cert.KernelIdeal Cert.KernelIdeal.Gen Cert.Spec

variable (m : (ℓ : Loc nD τ sig) → Buf (Elt Ideal) ℓ)

/-- The block of a grid point, entry by entry: the network at the entry's place in the array. -/
theorem block_eq (c : Dev nD) (t : Fin cfg0.N) (d : Fin 8) (q : Fin 8192) (j : (Shape.mk 3 ![4, 128, 16384]).Idx)
    (h0 : t.val / 32 = (j 0).val) (h1 : t.val % 16 * 8 + d.val = (j 1).val) (h2 : t.val / 16 % 2 * 8192 + q.val = (j 2).val) :
    ((outsAt0 m c t.val t.isLt).1 (ix3 0 d q) : EReal)
      = net (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) j := by
  rw [out_eq]
  simp only [kept_eq m c _ q (j 0) (j 2) _ t rfl h0 h2, v1_apply, u2_apply, c2_apply, u3_apply, c3_apply, u4_apply, c4_apply]
  rw [show 8 * (t.val % 16) + d.val = (j 1).val by omega]
  rfl

/-- The result array after the run. -/
theorem result_eq (c : Dev nD) : ((dats m 0 c).arrAt 16 cfg0.N : (Shape.mk 3 ![4, 128, 16384]).Idx → EReal)
      = net (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) := by
  refine (dats m 0 c).arrAt_eq_of_covers 16 _ (by decide +kernel) fun t hf y => ?_
  blk_simp
  rw [after0_16]
  have hy : y = (ix3 0 (y 1) (y 2) : S1x8x8192.Idx) := by
    idx_vars y
    rw [Subsingleton.elim y0 0]
  rw [hy]
  refine block_eq m c t (y 1) (y 2) _ ?_ ?_ ?_
  · blk_simp [places t]
    rfl
  · blk_simp [places t]
  · blk_simp [places t]

end Cert.KernelIdeal.Block

end
-- ==== Proof.Ref.lean ====
/-
  The reference's layers read entry by entry: each named intermediate array at an index is the dense layer of the
  specification.
-/
module

public import proofs.«01_k».proof.Proof.Spec
public import proofs.«01_k».proof.Proof.Gen.ReferenceIdeal.Run

@[expose] public section

set_option maxRecDepth 16384

noncomputable section

namespace Cert.ReferenceIdeal.Layers

open Idealize.ShloMosaic Idealize.ShloMosaic.TcCoe Cert.ReferenceIdeal Cert.ReferenceIdeal.Gen Cert.ReferenceIdeal.Value Cert.Spec

variable (V : Valuation τ sig (Elt Ideal))

/-- The reference's slope is the named one. -/
theorem slope_word : Ideal.ofBits .f32 0x3C23D70A#32 = Spec.slope := by
  unfold Spec.slope
  simp [Ideal.ofBits, Ideal.ieee, -EReal.coe_mul]
  norm_num

/-- The first channel-mixing layer at a pixel. -/
theorem v4_apply (b : Fin 4) (o : Fin 64) (r s : Fin 128) :
    (res_main_v4 V (ix4 b o r s) : EReal)
      = dense (fun o c => V (Proc.devRef .tc main_arg1) (ix2 o c)) (fun o => V (Proc.devRef .tc main_arg2) (ix1 o))
          (fun c => V (Proc.devRef .tc main_arg0) (ix4 b c r s)) o := by
  unfold dense
  pointwise [res_main_v4]
  exact congrArg (fun z : EReal => z + _) (Finset.sum_congr rfl fun c _ => mul_comm _ _)

/-- The second channel-mixing layer at a pixel. -/
theorem v14_apply (b : Fin 4) (o : Fin 32) (r s : Fin 128) :
    (res_main_v14 V (ix4 b o r s) : EReal)
      = dense (fun o c => V (Proc.devRef .tc main_arg3) (ix2 o c)) (fun o => V (Proc.devRef .tc main_arg4) (ix1 o))
          (fun c => leaky (res_main_v4 V (ix4 b c r s))) o := by
  unfold dense
  pointwise [res_main_v14]
  rw [slope_word]
  exact congrArg (fun z : EReal => z + _) (Finset.sum_congr rfl fun c _ => (mul_comm _ _).trans (congrArg _ (leaky_of_cases _)))

/-- A layer's output with its last two axes exchanged. -/
theorem turn32 (x : FVec Ideal S4x2097152x32 .f32) (b : Fin 4) (o : Fin 32) (p : Fin 2097152) :
    (transpose S4x32x2097152 [0, 2, 1] x transposes_S4x2097152x32_S4x32x2097152_0_2_1 (ix3 b o p) : EReal) = x (ix3 b p o) := by
  pointwise

/-- A layer's bias, spread over images and voxels. -/
theorem spread32 (x : FVec Ideal S32 .f32) (b : Fin 4) (o : Fin 32) (p : Fin 2097152) :
    (broadcastInDim S4x32x2097152 ![0, 1, 2] bcast_S1x32x1_S4x32x2097152_0_1_2
      (shapeCast _ x shapeCasts_S32_S1x32x1) (ix3 b o p) : EReal) = x (ix1 o) := by
  pointwise

/-- A layer's output with its last two axes exchanged. -/
theorem turn16 (x : FVec Ideal S4x2097152x16 .f32) (b : Fin 4) (o : Fin 16) (p : Fin 2097152) :
    (transpose S4x16x2097152 [0, 2, 1] x transposes_S4x2097152x16_S4x16x2097152_0_2_1 (ix3 b o p) : EReal) = x (ix3 b p o) := by
  pointwise

/-- A layer's bias, spread over images and voxels. -/
theorem spread16 (x : FVec Ideal S16 .f32) (b : Fin 4) (o : Fin 16) (p : Fin 2097152) :
    (broadcastInDim S4x16x2097152 ![0, 1, 2] bcast_S1x16x1_S4x16x2097152_0_1_2
      (shapeCast _ x shapeCasts_S16_S1x16x1) (ix3 b o p) : EReal) = x (ix1 o) := by
  pointwise

/-- A layer's output with its last two axes exchanged. -/
theorem turn1 (x : FVec Ideal S4x2097152x1 .f32) (b : Fin 4) (o : Fin 1) (p : Fin 2097152) :
    (transpose S4x1x2097152 [0, 2, 1] x transposes_S4x2097152x1_S4x1x2097152_0_2_1 (ix3 b o p) : EReal) = x (ix3 b p o) := by
  pointwise
  rw [Subsingleton.elim o 0]

/-- A layer's bias, spread over images and voxels. -/
theorem spread1 (x : FVec Ideal S1 .f32) (b : Fin 4) (o : Fin 1) (p : Fin 2097152) :
    (broadcastInDim S4x1x2097152 ![0, 1, 2] bcast_S1x1x1_S4x1x2097152_0_1_2
      (shapeCast _ x shapeCasts_S1_S1x1x1) (ix3 b o p) : EReal) = x (ix1 o) := by
  pointwise
  rw [Subsingleton.elim o 0]

/-- The weighted sums of a layer from 17 to 32 channels. -/
theorem sums17_32 (x : FVec Ideal S4x17x2097152 .f32) (w : FVec Ideal S32x17 .f32) (b : Fin 4) (o : Fin 32) (p : Fin 2097152) :
    (Host.dotGeneral dot_S4x17x2097152_S32x17_S4x2097152x32_1_1_02_0_n_n none x w (ix3 b p o) : EReal)
      = ∑ c, w (ix2 o c) * x (ix3 b c p) := by
  pointwise
  exact Finset.sum_congr rfl fun c _ => mul_comm _ _

/-- A layer from 17 to 32 channels at a voxel. -/
theorem layer17_32 (x : FVec Ideal S4x17x2097152 .f32) (w : FVec Ideal S32x17 .f32) (a : FVec Ideal S32 .f32) (b : Fin 4)
    (o : Fin 32) (p : Fin 2097152) :
    ((addf (transpose S4x32x2097152 [0, 2, 1] (Host.dotGeneral dot_S4x17x2097152_S32x17_S4x2097152x32_1_1_02_0_n_n none x w)
        transposes_S4x2097152x32_S4x32x2097152_0_2_1)
      (broadcastInDim S4x32x2097152 ![0, 1, 2] bcast_S1x32x1_S4x32x2097152_0_1_2 (shapeCast _ a shapeCasts_S32_S1x32x1)) :
        FVec Ideal S4x32x2097152 .f32) (ix3 b o p) : EReal)
      = dense (fun o c => w (ix2 o c)) (fun o => a (ix1 o)) (fun c => x (ix3 b c p)) o := by
  rw [addf_apply, turn32, sums17_32, spread32]
  rfl

/-- The weighted sums of a layer from 32 to 32 channels. -/
theorem sums32_32 (x : FVec Ideal S4x32x2097152 .f32) (w : FVec Ideal S32x32 .f32) (b : Fin 4) (o : Fin 32) (p : Fin 2097152) :
    (Host.dotGeneral dot_S4x32x2097152_S32x32_S4x2097152x32_1_1_02_0_n_n none x w (ix3 b p o) : EReal)
      = ∑ c, w (ix2 o c) * x (ix3 b c p) := by
  pointwise
  exact Finset.sum_congr rfl fun c _ => mul_comm _ _

/-- A layer from 32 to 32 channels at a voxel. -/
theorem layer32_32 (x : FVec Ideal S4x32x2097152 .f32) (w : FVec Ideal S32x32 .f32) (a : FVec Ideal S32 .f32) (b : Fin 4)
    (o : Fin 32) (p : Fin 2097152) :
    ((addf (transpose S4x32x2097152 [0, 2, 1] (Host.dotGeneral dot_S4x32x2097152_S32x32_S4x2097152x32_1_1_02_0_n_n none x w)
        transposes_S4x2097152x32_S4x32x2097152_0_2_1)
      (broadcastInDim S4x32x2097152 ![0, 1, 2] bcast_S1x32x1_S4x32x2097152_0_1_2 (shapeCast _ a shapeCasts_S32_S1x32x1)) :
        FVec Ideal S4x32x2097152 .f32) (ix3 b o p) : EReal)
      = dense (fun o c => w (ix2 o c)) (fun o => a (ix1 o)) (fun c => x (ix3 b c p)) o := by
  rw [addf_apply, turn32, sums32_32, spread32]
  rfl

/-- The weighted sums of a layer from 32 to 16 channels. -/
theorem sums32_16 (x : FVec Ideal S4x32x2097152 .f32) (w : FVec Ideal S16x32 .f32) (b : Fin 4) (o : Fin 16) (p : Fin 2097152) :
    (Host.dotGeneral dot_S4x32x2097152_S16x32_S4x2097152x16_1_1_02_0_n_n none x w (ix3 b p o) : EReal)
      = ∑ c, w (ix2 o c) * x (ix3 b c p) := by
  pointwise
  exact Finset.sum_congr rfl fun c _ => mul_comm _ _

/-- A layer from 32 to 16 channels at a voxel. -/
theorem layer32_16 (x : FVec Ideal S4x32x2097152 .f32) (w : FVec Ideal S16x32 .f32) (a : FVec Ideal S16 .f32) (b : Fin 4)
    (o : Fin 16) (p : Fin 2097152) :
    ((addf (transpose S4x16x2097152 [0, 2, 1] (Host.dotGeneral dot_S4x32x2097152_S16x32_S4x2097152x16_1_1_02_0_n_n none x w)
        transposes_S4x2097152x16_S4x16x2097152_0_2_1)
      (broadcastInDim S4x16x2097152 ![0, 1, 2] bcast_S1x16x1_S4x16x2097152_0_1_2 (shapeCast _ a shapeCasts_S16_S1x16x1)) :
        FVec Ideal S4x16x2097152 .f32) (ix3 b o p) : EReal)
      = dense (fun o c => w (ix2 o c)) (fun o => a (ix1 o)) (fun c => x (ix3 b c p)) o := by
  rw [addf_apply, turn16, sums32_16, spread16]
  rfl

/-- The weighted sums of a layer from 16 to 1 channels. -/
theorem sums16_1 (x : FVec Ideal S4x16x2097152 .f32) (w : FVec Ideal S1x16 .f32) (b : Fin 4) (o : Fin 1) (p : Fin 2097152) :
    (Host.dotGeneral dot_S4x16x2097152_S1x16_S4x2097152x1_1_1_02_0_n_n none x w (ix3 b p o) : EReal)
      = ∑ c, w (ix2 o c) * x (ix3 b c p) := by
  pointwise
  exact Finset.sum_congr rfl fun c _ => mul_comm _ _

/-- A layer from 16 to 1 channels at a voxel. -/
theorem layer16_1 (x : FVec Ideal S4x16x2097152 .f32) (w : FVec Ideal S1x16 .f32) (a : FVec Ideal S1 .f32) (b : Fin 4)
    (o : Fin 1) (p : Fin 2097152) :
    ((addf (transpose S4x1x2097152 [0, 2, 1] (Host.dotGeneral dot_S4x16x2097152_S1x16_S4x2097152x1_1_1_02_0_n_n none x w)
        transposes_S4x2097152x1_S4x1x2097152_0_2_1)
      (broadcastInDim S4x1x2097152 ![0, 1, 2] bcast_S1x1x1_S4x1x2097152_0_1_2 (shapeCast _ a shapeCasts_S1_S1x1x1)) :
        FVec Ideal S4x1x2097152 .f32) (ix3 b o p) : EReal)
      = dense (fun o c => w (ix2 o c)) (fun o => a (ix1 o)) (fun c => x (ix3 b c p)) o := by
  rw [addf_apply, turn1, sums16_1, spread1]
  rfl

/-- The rectifier as the reference spells it, on 32 channels. -/
theorem act32 (x : FVec Ideal S4x32x2097152 .f32) (y : S4x32x2097152.Idx) :
    ((select (cmpf .oge x (broadcastInDim S4x32x2097152 ![] bcast_S_S4x32x2097152 (constant S_ .f32 0x00000000#32))) x
      (mulf (broadcastInDim S4x32x2097152 ![] bcast_S_S4x32x2097152 (constant S_ .f32 0x3C23D70A#32)) x) :
        FVec Ideal S4x32x2097152 .f32) y : EReal) = leaky (x y) := by
  obtain ⟨b, o, p, rfl⟩ : ∃ (b : Fin 4) (o : Fin 32) (p : Fin 2097152), y = ix3 b o p := ⟨y 0, y 1, y 2, by idx_vars y⟩
  pointwise
  rw [slope_word]
  exact leaky_of_cases _

/-- The rectifier as the reference spells it, on 16 channels. -/
theorem act16 (x : FVec Ideal S4x16x2097152 .f32) (y : S4x16x2097152.Idx) :
    ((select (cmpf .oge x (broadcastInDim S4x16x2097152 ![] bcast_S_S4x16x2097152 (constant S_ .f32 0x00000000#32))) x
      (mulf (broadcastInDim S4x16x2097152 ![] bcast_S_S4x16x2097152 (constant S_ .f32 0x3C23D70A#32)) x) :
        FVec Ideal S4x16x2097152 .f32) y : EReal) = leaky (x y) := by
  obtain ⟨b, o, p, rfl⟩ : ∃ (b : Fin 4) (o : Fin 16) (p : Fin 2097152), y = ix3 b o p := ⟨y 0, y 1, y 2, by idx_vars y⟩
  pointwise
  rw [slope_word]
  exact leaky_of_cases _

/-- The network's second layer at a voxel. -/
theorem v46_apply (b : Fin 4) (o : Fin 32) (p : Fin 2097152) :
    (res_main_v46 V (ix3 b o p) : EReal)
      = dense (fun o c => V (Proc.devRef .tc main_arg9) (ix2 o c)) (fun o => V (Proc.devRef .tc main_arg10) (ix1 o))
          (fun c => leaky (res_main_v36 V (ix3 b c p))) o := by
  unfold res_main_v46
  refine (layer32_32 _ _ _ b o p).trans ?_
  exact congrArg (fun f => dense _ _ f o) (funext fun c => act32 _ _)

/-- The network's third layer at a voxel. -/
theorem v56_apply (b : Fin 4) (o : Fin 16) (p : Fin 2097152) :
    (res_main_v56 V (ix3 b o p) : EReal)
      = dense (fun o c => V (Proc.devRef .tc main_arg11) (ix2 o c)) (fun o => V (Proc.devRef .tc main_arg12) (ix1 o))
          (fun c => leaky (res_main_v46 V (ix3 b c p))) o := by
  unfold res_main_v56
  refine (layer32_16 _ _ _ b o p).trans ?_
  exact congrArg (fun f => dense _ _ f o) (funext fun c => act32 _ _)

end Cert.ReferenceIdeal.Layers

end
-- ==== Proof.RefNet.lean ====
/-
  The reference's seventeen channels per voxel — sixteen features of the voxel's pixel and the depth coordinate — and its
  result, entry by entry, as the specification's network (`result_eq`).
-/
module

public import proofs.«01_k».proof.Proof.Ref

@[expose] public section

set_option maxRecDepth 16384

noncomputable section

namespace Cert.ReferenceIdeal.Layers

open Idealize.ShloMosaic Idealize.ShloMosaic.TcCoe Cert.ReferenceIdeal Cert.ReferenceIdeal.Gen Cert.ReferenceIdeal.Value Cert.Spec

variable (V : Valuation τ sig (Elt Ideal))

/-- The reference's evenly spaced points, as it computes them: the first 127 by interpolation, the last one exactly. -/
def line : FVec Ideal S128 .f32 :=
  concatenate S128 0 [⟨S127, (addf (mulf (broadcastInDim S127 ![0] bcast_S1_S127_0 (shapeCast _ (res_main_call2_v0 V) shapeCasts_S_S1)) (subf (broadcastInDim S127 ![] bcast_S_S127 (constant S_ .f32 0x3F800000#32)) (res_main_call2_v6 V))) (mulf (broadcastInDim S127 ![0] bcast_S1_S127_0 (shapeCast _ (res_main_call2_v1 V) shapeCasts_S_S1)) (res_main_call2_v6 V)))⟩, ⟨S1, (broadcastInDim S1 ![] bcast_S_S1 (res_main_call2_v1 V))⟩] concatenates_S127_S1_S128_d0

/-- The word of the number 127. -/
theorem word_127 : Ideal.ofBits .f32 0x42FE0000#32 = ((127 : ℝ) : EReal) := by
  simp [Ideal.ofBits, Ideal.ieee, -EReal.coe_mul]
  norm_num

/-- The word of minus one. -/
theorem word_neg_one : Ideal.ofBits .f32 0xBF800000#32 = ((-1 : ℝ) : EReal) := by
  simp [Ideal.ofBits, Ideal.ieee, -EReal.coe_mul]
  norm_num

/-- The word of a small index, read as an integer. -/
theorem index_word : ∀ d : Fin 128, (BitVec.ofNat 32 d.val).toInt = (d.val : ℤ) := by
  decide +kernel

/-- The interpolated point number `d` is the depth coordinate. -/
theorem line_apply (d : Fin 128) : (line V (ix1 d) : EReal) = coord d.val := by
  pointwise [line, res_main_call2_v0, res_main_call2_v1, res_main_call2_v6]
  have hd : Ideal.div (FloatOps.sitofp (F := Ideal) .f32 (BitVec.ofNat 32 d.val)) (Ideal.ofBits .f32 1123942400#32)
      = ((d.val / 127 : ℝ) : EReal) := by
    change Ideal.div ((((BitVec.ofNat 32 d.val).toInt : ℝ)) : EReal) (Ideal.ofBits .f32 0x42FE0000#32) = _
    rw [word_127, Ideal.div_coe (by norm_num), index_word, ← EReal.coe_mul]
    exact congrArg _ (by push_cast; ring)
  have hm : (id (constant (F := Ideal) S_ .f32 3212836864#32) ix0 : EReal) = ((-1 : ℝ) : EReal) := word_neg_one
  have h1 : (id (constant (F := Ideal) S_ .f32 1065353216#32) ix0 : EReal) = ((1 : ℝ) : EReal) := Ideal.ofBits_one_f32
  rw [hd, hm, h1]
  unfold coord
  split
  · rw [show (1 : EReal) = ((1 : ℝ) : EReal) from rfl, ← EReal.coe_sub, ← EReal.coe_mul, ← EReal.coe_mul, ← EReal.coe_add]
    exact congrArg _ (by ring)
  · rename_i h
    have h127 : d.val = 127 := by omega
    rw [h127]
    exact congrArg _ (by norm_num)

/-- The voxels of an image in one row: voxel `p` is depth slice `p / 16384`, and its pixel. -/
theorem flat_apply (x : FVec Ideal S4x17x128x128x128 .f32) (b : Fin 4) (k : Fin 17) (p : Fin 2097152) (d r s : Fin 128)
    (h : p.val = 16384 * d.val + 128 * r.val + s.val) :
    (shapeCast S4x17x2097152 x shapeCasts_S4x17x128x128x128_S4x17x2097152 (ix3 b k p) : EReal) = x (ix5 b k d r s) := by
  pointwise
  rw [show (⟨p.val / 16384, by omega⟩ : Fin 128) = d from Fin.ext (by simp only; omega),
    show (⟨p.val / 128 % 128, by omega⟩ : Fin 128) = r from Fin.ext (by simp only; omega),
    show (⟨p.val % 128, by omega⟩ : Fin 128) = s from Fin.ext (by simp only; omega)]

/-- The result's slices cut from the row of voxels. -/
theorem cut_apply (x : FVec Ideal S4x1x2097152 .f32) (b : Fin 4) (d : Fin 128) (q : Fin 16384) :
    (shapeCast S4x128x16384 x shapeCasts_S4x1x2097152_S4x128x16384 (ix3 b d q) : EReal)
      = x (ix3 b 0 ⟨16384 * d.val + q.val, by omega⟩) := by
  pointwise
  exact congrArg (fun k => x (ix3 b 0 k)) (Fin.ext (by simp only; omega))

/-- The features followed by the depth coordinate. -/
def channels (f : FVec Ideal S4x16x128x128 .f32) (l : FVec Ideal S128 .f32) : FVec Ideal S4x17x128x128x128 .f32 :=
  concatenate S4x17x128x128x128 1 [⟨S4x16x128x128x128, (broadcastInDim S4x16x128x128x128 ![0, 1, 2, 3, 4] bcast_S4x16x1x128x128_S4x16x128x128x128_0_1_2_3_4 (broadcastInDim S4x16x1x128x128 ![0, 1, 3, 4] bcast_S4x16x128x128_S4x16x1x128x128_0_1_3_4 f))⟩, ⟨S4x1x128x128x128, (broadcastInDim S4x1x128x128x128 ![0, 1, 2, 3, 4] bcast_S1x1x128x1x1_S4x1x128x128x128_0_1_2_3_4 (shapeCast _ l shapeCasts_S128_S1x1x128x1x1))⟩] concatenates_S4x16x128x128x128_S4x1x128x128x128_S4x17x128x128x128_d1

/-- Channel `k` at a voxel: a feature of the voxel's pixel, or the point of the voxel's slice. -/
theorem channels_apply (f : FVec Ideal S4x16x128x128 .f32) (l : FVec Ideal S128 .f32) (b : Fin 4) (k : Fin 17) (d r s : Fin 128) :
    (channels f l (ix5 b k d r s) : EReal) = if h : k.val < 16 then f (ix4 b ⟨k.val, h⟩ r s) else l (ix1 d) := by
  pointwise [channels]

/-- The third channel-mixing layer, which has no rectifier after it. -/
def third (h : FVec Ideal S4x32x128x128 .f32) (w : FVec Ideal S16x32 .f32) (a : FVec Ideal S16 .f32) :
    FVec Ideal S4x16x128x128 .f32 :=
  addf (transpose S4x16x128x128 [0, 3, 1, 2] (Host.dotGeneral dot_S4x32x128x128_S16x32_S4x128x128x16_1_1_023_0_n_n none (select (cmpf .oge h (broadcastInDim S4x32x128x128 ![] bcast_S_S4x32x128x128 (constant S_ .f32 0x00000000#32))) h (mulf (broadcastInDim S4x32x128x128 ![] bcast_S_S4x32x128x128 (constant S_ .f32 0x3C23D70A#32)) h)) w) transposes_S4x128x128x16_S4x16x128x128_0_3_1_2) (broadcastInDim S4x16x128x128 ![0, 1, 2, 3] bcast_S1x16x1x1_S4x16x128x128_0_1_2_3 (shapeCast _ a shapeCasts_S16_S1x16x1x1))

/-- The third layer at a pixel. -/
theorem third_layer (h : FVec Ideal S4x32x128x128 .f32) (w : FVec Ideal S16x32 .f32) (a : FVec Ideal S16 .f32) (b : Fin 4)
    (o : Fin 16) (r s : Fin 128) :
    (third h w a (ix4 b o r s) : EReal)
      = dense (fun o c => w (ix2 o c)) (fun o => a (ix1 o)) (fun c => leaky (h (ix4 b c r s))) o := by
  unfold dense
  pointwise [third]
  rw [slope_word]
  exact congrArg (fun z : EReal => z + _) (Finset.sum_congr rfl fun c _ => (mul_comm _ _).trans (congrArg _ (leaky_of_cases _)))

/-- The features of the argument's pixels, before the depth coordinate joins them. -/
abbrev features : FVec Ideal S4x16x128x128 .f32 :=
  third (res_main_v14 V) (V (Proc.devRef .tc main_arg5)) (V (Proc.devRef .tc main_arg6))

/-- The features of a pixel are the three channel-mixing layers on its channels. -/
theorem features_apply (b : Fin 4) (o : Fin 16) (r s : Fin 128) :
    (features V (ix4 b o r s) : EReal)
      = feat (fun o c => (V (Proc.devRef .tc main_arg1)) (ix2 o c)) (fun o => (V (Proc.devRef .tc main_arg2)) (ix1 o)) (fun o c => (V (Proc.devRef .tc main_arg3)) (ix2 o c)) (fun o => (V (Proc.devRef .tc main_arg4)) (ix1 o))
          (fun o c => (V (Proc.devRef .tc main_arg5)) (ix2 o c)) (fun o => (V (Proc.devRef .tc main_arg6)) (ix1 o)) (fun c => (V (Proc.devRef .tc main_arg0)) (ix4 b c r s)) o := by
  unfold features
  rw [third_layer]
  unfold feat
  simp only [v14_apply, v4_apply]

/-- The network's first layer at a voxel: the feature part shifted by the depth channel. -/
theorem v36_apply (b : Fin 4) (o : Fin 32) (d : Fin 128) (q : Fin 16384) :
    (res_main_v36 V (ix3 b o ⟨16384 * d.val + q.val, by omega⟩) : EReal)
      = shifted (baseAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) b q)
          (fun o => (V (Proc.devRef .tc main_arg7)) (ix2 o (Fin.last 16))) (coord d.val) o := by
  have hk : ∀ k : Fin 17, (shapeCast S4x17x2097152 (channels (features V) (line V)) shapeCasts_S4x17x128x128x128_S4x17x2097152
      (ix3 b k ⟨16384 * d.val + q.val, by omega⟩) : EReal)
        = if h : k.val < 16 then features V (ix4 b ⟨k.val, h⟩ ⟨q.val / 128, by omega⟩ ⟨q.val % 128, by omega⟩) else line V (ix1 d) := by
    intro k
    rw [flat_apply _ b k _ d ⟨q.val / 128, by omega⟩ ⟨q.val % 128, by omega⟩ (by simp only; omega), channels_apply]
  unfold res_main_v36
  refine (layer17_32 (shapeCast S4x17x2097152 (channels (features V) (line V)) shapeCasts_S4x17x128x128x128_S4x17x2097152)
    _ _ b o ⟨16384 * d.val + q.val, by omega⟩).trans ?_
  rw [dense_split]
  simp only [hk]
  have hl : ¬ (Fin.last 16).val < 16 := by decide
  rw [dif_neg hl, line_apply]
  refine congrArg (fun f => shifted f _ _ o) ?_
  unfold baseAt
  refine congrArg (dense _ _) (funext fun c => ?_)
  rw [dif_pos (show (Fin.castSucc c).val < 16 from c.isLt)]
  exact features_apply V b c _ _

/-- The logistic function as the reference spells it. -/
theorem sigmoid_apply (x : FVec Ideal S4x1x2097152 .f32) (y : S4x1x2097152.Idx) :
    ((Host.divf (broadcastInDim S4x1x2097152 ![] bcast_S_S4x1x2097152 (constant S_ .f32 0x3F800000#32))
      (addf (broadcastInDim S4x1x2097152 ![] bcast_S_S4x1x2097152 (constant S_ .f32 0x3F800000#32)) (Host.exp (Host.negf x))) :
        FVec Ideal S4x1x2097152 .f32) y : EReal) = Ideal.logistic (x y) := by
  obtain ⟨b, o, p, rfl⟩ : ∃ (b : Fin 4) (o : Fin 1) (p : Fin 2097152), y = ix3 b o p := ⟨y 0, y 1, y 2, by idx_vars y⟩
  pointwise
  rfl

/-- The last layer and the logistic function, cut into slices. -/
def last (h : FVec Ideal S4x16x2097152 .f32) (w : FVec Ideal S1x16 .f32) (a : FVec Ideal S1 .f32) : FVec Ideal S4x128x16384 .f32 :=
  shapeCast S4x128x16384 (Host.divf (broadcastInDim S4x1x2097152 ![] bcast_S_S4x1x2097152 (constant S_ .f32 0x3F800000#32)) (addf (broadcastInDim S4x1x2097152 ![] bcast_S_S4x1x2097152 (constant S_ .f32 0x3F800000#32)) (Host.exp (Host.negf (addf (transpose S4x1x2097152 [0, 2, 1] (Host.dotGeneral dot_S4x16x2097152_S1x16_S4x2097152x1_1_1_02_0_n_n none (select (cmpf .oge h (broadcastInDim S4x16x2097152 ![] bcast_S_S4x16x2097152 (constant S_ .f32 0x00000000#32))) h (mulf (broadcastInDim S4x16x2097152 ![] bcast_S_S4x16x2097152 (constant S_ .f32 0x3C23D70A#32)) h)) w) transposes_S4x2097152x1_S4x1x2097152_0_2_1) (broadcastInDim S4x1x2097152 ![0, 1, 2] bcast_S1x1x1_S4x1x2097152_0_1_2 (shapeCast _ a shapeCasts_S1_S1x1x1))))))) shapeCasts_S4x1x2097152_S4x128x16384

/-- An entry of the result: the last layer at the entry's voxel, and the logistic function. -/
theorem last_apply (h : FVec Ideal S4x16x2097152 .f32) (w : FVec Ideal S1x16 .f32) (a : FVec Ideal S1 .f32) (b : Fin 4)
    (d : Fin 128) (q : Fin 16384) :
    (last h w a (ix3 b d q) : EReal) = Ideal.logistic (dense (fun o c => w (ix2 o c)) (fun o => a (ix1 o))
      (fun c => leaky (h (ix3 b c ⟨16384 * d.val + q.val, by omega⟩))) 0) := by
  unfold last
  rw [cut_apply, sigmoid_apply, layer16_1]
  exact congrArg (fun f => Ideal.logistic (dense _ _ f 0)) (funext fun c => act16 h _)

/-- The reference's result is the network. -/
theorem result_eq : (last (res_main_v56 V) (V (Proc.devRef .tc main_arg13)) (V (Proc.devRef .tc main_arg14)) :
    (Shape.mk 3 ![4, 128, 16384]).Idx → EReal)
      = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  funext j
  obtain ⟨b, d, q, rfl⟩ : ∃ (b : Fin 4) (d : Fin 128) (q : Fin 16384), j = ix3 b d q := ⟨j 0, j 1, j 2, by idx_vars j⟩
  rw [last_apply]
  simp only [v56_apply, v46_apply, v36_apply]
  rfl

end Cert.ReferenceIdeal.Layers

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.RefNet
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Idealize.ShloMosaic.TcCoe

/-- The kernel as written runs, leaves its arguments as they are, and ends quiescent. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Each named constant of the idealized kernel has its value in the table of names. -/
theorem preserves : Cert.preserves_Kernel_KernelIdeal :=
  ⟨IdealRules.named_const.statement Cert.KernelIdeal.κ "slope" .f32 0x3C23D70A#32 ((5368709 / 536870912 : ℝ) : EReal) rfl,
    IdealRules.named_const.statement Cert.KernelIdeal.κ "step" .f32 0x3C810204#32 ((2 / 127 : ℝ) : EReal) rfl,
    IdealRules.named_const.statement Cert.KernelIdeal.κ "slope" .bf16 0x3C24#16 ((5368709 / 536870912 : ℝ) : EReal) rfl⟩

/-- From equal arguments the idealized kernel and the reference end with the same result: both hold the network. -/
theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  refine Eq.trans (Cert.ReferenceIdeal.Layers.result_eq (StableHlo.launchContents m' c)) ?_
  refine Eq.trans ?_ (Cert.KernelIdeal.Block.result_eq m c).symm
  obtain ⟨h0, h1, h2, h3, h4, h5, h6, h7, h8, h9, h10, h11, h12, h13, h14⟩ := hagree c
  rw [← h0, ← h1, ← h2, ← h3, ← h4, ← h5, ← h6, ← h7, ← h8, ← h9, ← h10, ← h11, ← h12, ← h13, ← h14]

/-- The claim. -/
theorem claim : Cert.Claim := ⟨Cert.Kernel.Gen.facts, Cert.KernelIdeal.Gen.facts, Cert.ReferenceIdeal.Gen.facts,
  frame_p, frame_pi, frame_ri, preserves, algebraic⟩

end Cert.Proof

end
